-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_At (m : (ℓ : Loc Cert.At.nD Cert.At.τ Cert.At.sig) → Buf (Elt Bits) ℓ) : Prop :=
  True

def Pre_AtIdeal (m : (ℓ : Loc Cert.AtIdeal.nD Cert.AtIdeal.τ Cert.AtIdeal.sig) → Buf (Elt Ideal) ℓ) : Prop :=
  True

def Pre_RefAtIdeal (m : (ℓ : Loc Cert.RefAtIdeal.nD Cert.RefAtIdeal.τ Cert.RefAtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_At [hAt : Cert.At.Facts] : Prop :=
  ∀ (m : (ℓ : Loc Cert.At.nD Cert.At.τ Cert.At.sig) → Buf (Elt Bits) ℓ) (g : Dev Cert.At.nD → PrngReg), Pre_At m →
    θ_run (Cert.At.defs (F := Bits)) (onTc (τ := Cert.At.τ) (Cert.At.main (F := Bits))) ⟨m, fun _ => 0, g⟩ (fun r => (∀ c : Dev Cert.At.nD,
      r.2.mem ((c.tc : Thread Cert.At.nD Cert.At.τ).loc Cert.At.main_arg0) = m ((c.tc : Thread Cert.At.nD Cert.At.τ).loc Cert.At.main_arg0)
      ∧ r.2.mem ((c.tc : Thread Cert.At.nD Cert.At.τ).loc Cert.At.main_arg1) = m ((c.tc : Thread Cert.At.nD Cert.At.τ).loc Cert.At.main_arg1)
      ∧ r.2.mem ((c.tc : Thread Cert.At.nD Cert.At.τ).loc Cert.At.main_arg2) = m ((c.tc : Thread Cert.At.nD Cert.At.τ).loc Cert.At.main_arg2)
      ∧ r.2.mem ((c.tc : Thread Cert.At.nD Cert.At.τ).loc Cert.At.main_arg3) = m ((c.tc : Thread Cert.At.nD Cert.At.τ).loc Cert.At.main_arg3)
      ∧ r.2.mem ((c.tc : Thread Cert.At.nD Cert.At.τ).loc Cert.At.main_arg4) = m ((c.tc : Thread Cert.At.nD Cert.At.τ).loc Cert.At.main_arg4))
      ∧ r.2.sem = fun _ => 0)

def quiescent_AtIdeal [hAtIdeal : Cert.AtIdeal.Facts] : Prop :=
  ∀ (m : (ℓ : Loc Cert.AtIdeal.nD Cert.AtIdeal.τ Cert.AtIdeal.sig) → Buf (Elt Ideal) ℓ) (g : Dev Cert.AtIdeal.nD → PrngReg), Pre_AtIdeal m →
    θ_run (Cert.AtIdeal.defs (F := Ideal)) (onTc (τ := Cert.AtIdeal.τ) (Cert.AtIdeal.main (F := Ideal))) ⟨m, fun _ => 0, g⟩ (fun r => (∀ c : Dev Cert.AtIdeal.nD,
      r.2.mem ((c.tc : Thread Cert.AtIdeal.nD Cert.AtIdeal.τ).loc Cert.AtIdeal.main_arg0) = m ((c.tc : Thread Cert.AtIdeal.nD Cert.AtIdeal.τ).loc Cert.AtIdeal.main_arg0)
      ∧ r.2.mem ((c.tc : Thread Cert.AtIdeal.nD Cert.AtIdeal.τ).loc Cert.AtIdeal.main_arg1) = m ((c.tc : Thread Cert.AtIdeal.nD Cert.AtIdeal.τ).loc Cert.AtIdeal.main_arg1)
      ∧ r.2.mem ((c.tc : Thread Cert.AtIdeal.nD Cert.AtIdeal.τ).loc Cert.AtIdeal.main_arg2) = m ((c.tc : Thread Cert.AtIdeal.nD Cert.AtIdeal.τ).loc Cert.AtIdeal.main_arg2)
      ∧ r.2.mem ((c.tc : Thread Cert.AtIdeal.nD Cert.AtIdeal.τ).loc Cert.AtIdeal.main_arg3) = m ((c.tc : Thread Cert.AtIdeal.nD Cert.AtIdeal.τ).loc Cert.AtIdeal.main_arg3)
      ∧ r.2.mem ((c.tc : Thread Cert.AtIdeal.nD Cert.AtIdeal.τ).loc Cert.AtIdeal.main_arg4) = m ((c.tc : Thread Cert.AtIdeal.nD Cert.AtIdeal.τ).loc Cert.AtIdeal.main_arg4))
      ∧ r.2.sem = fun _ => 0)

def quiescent_RefAtIdeal [hRefAtIdeal : Cert.RefAtIdeal.Facts] : Prop :=
  ∀ (m : (ℓ : Loc Cert.RefAtIdeal.nD Cert.RefAtIdeal.τ Cert.RefAtIdeal.sig) → Buf (Elt Ideal) ℓ) (g : Dev Cert.RefAtIdeal.nD → PrngReg), Pre_RefAtIdeal m →
    θ_run (Cert.RefAtIdeal.defs (F := Ideal)) (onTc (τ := Cert.RefAtIdeal.τ) (Cert.RefAtIdeal.main (F := Ideal))) ⟨m, fun _ => 0, g⟩ (fun r => (∀ c : Dev Cert.RefAtIdeal.nD,
      r.2.mem ((c.tc : Thread Cert.RefAtIdeal.nD Cert.RefAtIdeal.τ).loc Cert.RefAtIdeal.main_arg0) = m ((c.tc : Thread Cert.RefAtIdeal.nD Cert.RefAtIdeal.τ).loc Cert.RefAtIdeal.main_arg0)
      ∧ r.2.mem ((c.tc : Thread Cert.RefAtIdeal.nD Cert.RefAtIdeal.τ).loc Cert.RefAtIdeal.main_arg1) = m ((c.tc : Thread Cert.RefAtIdeal.nD Cert.RefAtIdeal.τ).loc Cert.RefAtIdeal.main_arg1)
      ∧ r.2.mem ((c.tc : Thread Cert.RefAtIdeal.nD Cert.RefAtIdeal.τ).loc Cert.RefAtIdeal.main_arg2) = m ((c.tc : Thread Cert.RefAtIdeal.nD Cert.RefAtIdeal.τ).loc Cert.RefAtIdeal.main_arg2)
      ∧ r.2.mem ((c.tc : Thread Cert.RefAtIdeal.nD Cert.RefAtIdeal.τ).loc Cert.RefAtIdeal.main_arg3) = m ((c.tc : Thread Cert.RefAtIdeal.nD Cert.RefAtIdeal.τ).loc Cert.RefAtIdeal.main_arg3)
      ∧ r.2.mem ((c.tc : Thread Cert.RefAtIdeal.nD Cert.RefAtIdeal.τ).loc Cert.RefAtIdeal.main_arg4) = m ((c.tc : Thread Cert.RefAtIdeal.nD Cert.RefAtIdeal.τ).loc Cert.RefAtIdeal.main_arg4))
      ∧ r.2.sem = fun _ => 0)

def bitexact_Kernel_Reference_on_codes_and_scale [hKernel : Cert.Kernel.Facts] [hReference : Cert.Reference.Facts] [hOn_codes_and_scale : Cert.On_codes_and_scale.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v7)) (v1 : (c : Dev Cert.Kernel.nD) → Buf (Elt Bits) ((c.tc : Thread Cert.Kernel.nD Cert.Kernel.τ).loc Cert.Kernel.main_v4)) (v2 : (c : Dev Cert.Kernel.nD) → Buf (Elt Bits) ((c.tc : Thread Cert.Kernel.nD Cert.Kernel.τ).loc Cert.Kernel.main_arg1)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![6, 3072, 24576]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Kernel.nD Cert.Kernel.τ).loc Cert.Kernel.main_v7) i = v0 c i)
          ∧ (∀ i : (⟨3, ![6, 3072, 7168]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Kernel.nD Cert.Kernel.τ).loc Cert.Kernel.main_v4) i = v1 c i)
          ∧ (∀ i : (⟨1, ![1]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Kernel.nD Cert.Kernel.τ).loc Cert.Kernel.main_arg1) i = v2 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![6, 3072, 24576]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Reference.nD Cert.Reference.τ).loc Cert.Reference.main_v4_0) i = v0 c i)
          ∧ (∀ i : (⟨3, ![6, 3072, 7168]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Reference.nD Cert.Reference.τ).loc Cert.Reference.main_v4_1) i = v1 c i)
          ∧ (∀ i : (⟨1, ![1]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Reference.nD Cert.Reference.τ).loc Cert.Reference.main_arg1) i = v2 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_At_AtIdeal : Prop :=
  True

def algebraic_AtIdeal_RefAtIdeal [hAtIdeal : Cert.AtIdeal.Facts] [hRefAtIdeal : Cert.RefAtIdeal.Facts] : Prop :=
  ∀ (m : (ℓ : Loc Cert.AtIdeal.nD Cert.AtIdeal.τ Cert.AtIdeal.sig) → Buf (Elt Ideal) ℓ) (g : Dev Cert.AtIdeal.nD → PrngReg)
    (m' : (ℓ : Loc Cert.RefAtIdeal.nD Cert.RefAtIdeal.τ Cert.RefAtIdeal.sig) → Buf (Elt Ideal) ℓ) (g' : Dev Cert.RefAtIdeal.nD → PrngReg), Pre_AtIdeal m →
    (∀ c : Dev Cert.AtIdeal.nD,
      m' ((c.tc : Thread Cert.RefAtIdeal.nD Cert.RefAtIdeal.τ).loc Cert.RefAtIdeal.main_arg0) = m ((c.tc : Thread Cert.AtIdeal.nD Cert.AtIdeal.τ).loc Cert.AtIdeal.main_arg0)
      ∧ m' ((c.tc : Thread Cert.RefAtIdeal.nD Cert.RefAtIdeal.τ).loc Cert.RefAtIdeal.main_arg1) = m ((c.tc : Thread Cert.AtIdeal.nD Cert.AtIdeal.τ).loc Cert.AtIdeal.main_arg1)
      ∧ m' ((c.tc : Thread Cert.RefAtIdeal.nD Cert.RefAtIdeal.τ).loc Cert.RefAtIdeal.main_arg2) = m ((c.tc : Thread Cert.AtIdeal.nD Cert.AtIdeal.τ).loc Cert.AtIdeal.main_arg2)
      ∧ m' ((c.tc : Thread Cert.RefAtIdeal.nD Cert.RefAtIdeal.τ).loc Cert.RefAtIdeal.main_arg3) = m ((c.tc : Thread Cert.AtIdeal.nD Cert.AtIdeal.τ).loc Cert.AtIdeal.main_arg3)
      ∧ m' ((c.tc : Thread Cert.RefAtIdeal.nD Cert.RefAtIdeal.τ).loc Cert.RefAtIdeal.main_arg4) = m ((c.tc : Thread Cert.AtIdeal.nD Cert.AtIdeal.τ).loc Cert.AtIdeal.main_arg4)) →
    ∃ (v0 : (c : Dev Cert.AtIdeal.nD) → Buf (Elt Ideal) ((c.tc : Thread Cert.AtIdeal.nD Cert.AtIdeal.τ).loc Cert.AtIdeal.main_v3)) (v1 : (c : Dev Cert.AtIdeal.nD) → Buf (Elt Ideal) ((c.tc : Thread Cert.AtIdeal.nD Cert.AtIdeal.τ).loc Cert.AtIdeal.main_v0)) (v2 : (c : Dev Cert.AtIdeal.nD) → Buf (Elt Ideal) ((c.tc : Thread Cert.AtIdeal.nD Cert.AtIdeal.τ).loc Cert.AtIdeal.main_arg2)),
      θ_run (Cert.AtIdeal.defs (F := Ideal)) (onTc (τ := Cert.AtIdeal.τ) (Cert.AtIdeal.main (F := Ideal))) ⟨m, fun _ => 0, g⟩ (fun r => ∀ c : Dev Cert.AtIdeal.nD,
          r.2.mem ((c.tc : Thread Cert.AtIdeal.nD Cert.AtIdeal.τ).loc Cert.AtIdeal.main_v3) = v0 c
          ∧ r.2.mem ((c.tc : Thread Cert.AtIdeal.nD Cert.AtIdeal.τ).loc Cert.AtIdeal.main_v0) = v1 c
          ∧ r.2.mem ((c.tc : Thread Cert.AtIdeal.nD Cert.AtIdeal.τ).loc Cert.AtIdeal.main_arg2) = v2 c
          ∧ r.2.mem ((c.tc : Thread Cert.AtIdeal.nD Cert.AtIdeal.τ).loc Cert.AtIdeal.main_arg0) = m ((c.tc : Thread Cert.AtIdeal.nD Cert.AtIdeal.τ).loc Cert.AtIdeal.main_arg0)
          ∧ r.2.mem ((c.tc : Thread Cert.AtIdeal.nD Cert.AtIdeal.τ).loc Cert.AtIdeal.main_arg1) = m ((c.tc : Thread Cert.AtIdeal.nD Cert.AtIdeal.τ).loc Cert.AtIdeal.main_arg1)
          ∧ r.2.mem ((c.tc : Thread Cert.AtIdeal.nD Cert.AtIdeal.τ).loc Cert.AtIdeal.main_arg2) = m ((c.tc : Thread Cert.AtIdeal.nD Cert.AtIdeal.τ).loc Cert.AtIdeal.main_arg2)
          ∧ r.2.mem ((c.tc : Thread Cert.AtIdeal.nD Cert.AtIdeal.τ).loc Cert.AtIdeal.main_arg3) = m ((c.tc : Thread Cert.AtIdeal.nD Cert.AtIdeal.τ).loc Cert.AtIdeal.main_arg3)
          ∧ r.2.mem ((c.tc : Thread Cert.AtIdeal.nD Cert.AtIdeal.τ).loc Cert.AtIdeal.main_arg4) = m ((c.tc : Thread Cert.AtIdeal.nD Cert.AtIdeal.τ).loc Cert.AtIdeal.main_arg4))
      ∧ θ_run (Cert.RefAtIdeal.defs (F := Ideal)) (onTc (τ := Cert.RefAtIdeal.τ) (Cert.RefAtIdeal.main (F := Ideal))) ⟨m', fun _ => 0, g'⟩ (fun r => ∀ c : Dev Cert.RefAtIdeal.nD,
          r.2.mem ((c.tc : Thread Cert.RefAtIdeal.nD Cert.RefAtIdeal.τ).loc Cert.RefAtIdeal.main_v0_0) = v0 c
          ∧ r.2.mem ((c.tc : Thread Cert.RefAtIdeal.nD Cert.RefAtIdeal.τ).loc Cert.RefAtIdeal.main_v0_1) = v1 c
          ∧ r.2.mem ((c.tc : Thread Cert.RefAtIdeal.nD Cert.RefAtIdeal.τ).loc Cert.RefAtIdeal.main_arg2) = v2 c
          ∧ r.2.mem ((c.tc : Thread Cert.RefAtIdeal.nD Cert.RefAtIdeal.τ).loc Cert.RefAtIdeal.main_arg0) = m' ((c.tc : Thread Cert.RefAtIdeal.nD Cert.RefAtIdeal.τ).loc Cert.RefAtIdeal.main_arg0)
          ∧ r.2.mem ((c.tc : Thread Cert.RefAtIdeal.nD Cert.RefAtIdeal.τ).loc Cert.RefAtIdeal.main_arg1) = m' ((c.tc : Thread Cert.RefAtIdeal.nD Cert.RefAtIdeal.τ).loc Cert.RefAtIdeal.main_arg1)
          ∧ r.2.mem ((c.tc : Thread Cert.RefAtIdeal.nD Cert.RefAtIdeal.τ).loc Cert.RefAtIdeal.main_arg2) = m' ((c.tc : Thread Cert.RefAtIdeal.nD Cert.RefAtIdeal.τ).loc Cert.RefAtIdeal.main_arg2)
          ∧ r.2.mem ((c.tc : Thread Cert.RefAtIdeal.nD Cert.RefAtIdeal.τ).loc Cert.RefAtIdeal.main_arg3) = m' ((c.tc : Thread Cert.RefAtIdeal.nD Cert.RefAtIdeal.τ).loc Cert.RefAtIdeal.main_arg3)
          ∧ r.2.mem ((c.tc : Thread Cert.RefAtIdeal.nD Cert.RefAtIdeal.τ).loc Cert.RefAtIdeal.main_arg4) = m' ((c.tc : Thread Cert.RefAtIdeal.nD Cert.RefAtIdeal.τ).loc Cert.RefAtIdeal.main_arg4))

def Claim : Prop :=
  ∃ (hKernel : Cert.Kernel.Facts) (hReference : Cert.Reference.Facts) (hAt : Cert.At.Facts) (hAtIdeal : Cert.AtIdeal.Facts) (hRefAtIdeal : Cert.RefAtIdeal.Facts) (hOn_codes_and_scale : Cert.On_codes_and_scale.Facts),
    quiescent_Kernel (hKernel := hKernel)
    ∧ quiescent_Reference (hReference := hReference)
    ∧ quiescent_At (hAt := hAt)
    ∧ quiescent_AtIdeal (hAtIdeal := hAtIdeal)
    ∧ quiescent_RefAtIdeal (hRefAtIdeal := hRefAtIdeal)
    ∧ bitexact_Kernel_Reference_on_codes_and_scale (hKernel := hKernel) (hReference := hReference) (hOn_codes_and_scale := hOn_codes_and_scale)
    ∧ preserves_At_AtIdeal
    ∧ algebraic_AtIdeal_RefAtIdeal (hAtIdeal := hAtIdeal) (hRefAtIdeal := hRefAtIdeal)
-- ==== On_codes_and_scale.lean ====
abbrev S6x3072x7168 : Shape := ⟨3, ![6, 3072, 7168]⟩
abbrev S1 : Shape := ⟨1, ![1]⟩
abbrev S7168x24576 : Shape := ⟨2, ![7168, 24576]⟩
abbrev S24576 : Shape := ⟨1, ![24576]⟩
abbrev S_ : Shape := ⟨0, ![]⟩
abbrev S6x3072x24576 : Shape := ⟨3, ![6, 3072, 24576]⟩

class Facts : Prop where
  bcast_S_S6x3072x24576 : S_.BroadcastsInDim S6x3072x24576 (![] : Fin 0 → Fin S6x3072x24576.rank)
  bcast_S_S6x3072x7168 : S_.BroadcastsInDim S6x3072x7168 (![] : Fin 0 → Fin S6x3072x7168.rank)
  bcast_S_S1 : S_.BroadcastsInDim S1 (![] : Fin 0 → Fin S1.rank)

variable [Facts]

def fn {F : FTy → Type} [FloatOps F] (main_arg0 : FVec F S6x3072x7168 .bf16) (main_arg1 : FVec F S1 .f32) (main_arg2 : FVec F S7168x24576 .fp8e4m3) (main_arg3 : FVec F S24576 .f32) : IVec S6x3072x24576 1 × IVec S6x3072x7168 1 × IVec S1 1 :=
  let main_c : IVec S_ 1 := constantI S_ 1 0#1
  let main_v0 : IVec S6x3072x24576 1 := broadcastInDim S6x3072x24576 ![] bcast_S_S6x3072x24576 main_c
  let main_c_0 : IVec S_ 1 := constantI S_ 1 1#1
  let main_v1 : IVec S6x3072x7168 1 := broadcastInDim S6x3072x7168 ![] bcast_S_S6x3072x7168 main_c_0
  let main_c_1 : IVec S_ 1 := constantI S_ 1 1#1
  let main_v2 : IVec S1 1 := broadcastInDim S1 ![] bcast_S_S1 main_c_1
  (main_v0, main_v1, main_v2)
-- ==== Kernel.lean ====
abbrev S6x3072x7168 : Shape := ⟨3, ![6, 3072, 7168]⟩
abbrev S1 : Shape := ⟨1, ![1]⟩
abbrev S7168x24576 : Shape := ⟨2, ![7168, 24576]⟩
abbrev S24576 : Shape := ⟨1, ![24576]⟩
abbrev S_ : Shape := ⟨0, ![]⟩
abbrev S1x512x7168 : Shape := ⟨3, ![1, 512, 7168]⟩
abbrev S1x24576 : Shape := ⟨2, ![1, 24576]⟩
abbrev S2304x8x24576 : Shape := ⟨3, ![2304, 8, 24576]⟩
abbrev S1x1024x7168 : Shape := ⟨3, ![1, 1024, 7168]⟩
abbrev S7168x1024 : Shape := ⟨2, ![7168, 1024]⟩
abbrev S1x1024 : Shape := ⟨2, ![1, 1024]⟩
abbrev S128x8x1024 : Shape := ⟨3, ![128, 8, 1024]⟩
abbrev S1024x7168 : Shape := ⟨2, ![1024, 7168]⟩
abbrev S1024x1024 : Shape := ⟨2, ![1024, 1024]⟩
abbrev S6x3072x24576 : Shape := ⟨3, ![6, 3072, 24576]⟩

abbrev nBuf : Space → Nat
  | .hbm => 117
  | .vmem => 12
  | .smem => 2
  | _ => 0

abbrev bufTy : (tb : Table) → Fin (tcTables nBuf tb) → BufTy
  | .hbm, ⟨0, _⟩ => ⟨S6x3072x7168, .bf16⟩
  | .hbm, ⟨1, _⟩ => ⟨S1, .f32⟩
  | .hbm, ⟨2, _⟩ => ⟨S7168x24576, .fp8e4m3⟩
  | .hbm, ⟨3, _⟩ => ⟨S24576, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S_, .f32⟩
  | .hbm, ⟨54, _⟩ => ⟨S1, .f32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S1, .f32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S1, .i1⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S1, .i1⟩
  | .hbm, ⟨105, _⟩ => ⟨S_, .i32⟩
  | .hbm, ⟨106, _⟩ => ⟨S1, .i32⟩
  | .hbm, ⟨107, _⟩ => ⟨S1, .i1⟩
  | .hbm, ⟨108, _⟩ => ⟨S1, .i32⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .f32⟩
  | .hbm, ⟨113, _⟩ => ⟨S6x3072x7168, .fp8e4m3⟩
  | .hbm, ⟨114, _⟩ => ⟨S1x24576, .f32⟩
  | .hbm, ⟨115, _⟩ => ⟨S2304x8x24576, .bf16⟩
  | .hbm, ⟨116, _⟩ => ⟨S6x3072x24576, .bf16⟩
  | .local _ .vmem, ⟨0, _⟩ => ⟨S1x512x7168, .bf16⟩
  | .local _ .vmem, ⟨1, _⟩ => ⟨S1x512x7168, .bf16⟩
  | .local _ .vmem, ⟨2, _⟩ => ⟨S1x512x7168, .fp8e4m3⟩
  | .local _ .vmem, ⟨3, _⟩ => ⟨S1x512x7168, .fp8e4m3⟩
  | .local _ .vmem, ⟨4, _⟩ => ⟨S1x1024x7168, .fp8e4m3⟩
  | .local _ .vmem, ⟨5, _⟩ => ⟨S1x1024x7168, .fp8e4m3⟩
  | .local _ .vmem, ⟨6, _⟩ => ⟨S7168x1024, .fp8e4m3⟩
  | .local _ .vmem, ⟨7, _⟩ => ⟨S7168x1024, .fp8e4m3⟩
  | .local _ .vmem, ⟨8, _⟩ => ⟨S1x1024, .f32⟩
  | .local _ .vmem, ⟨9, _⟩ => ⟨S1x1024, .f32⟩
  | .local _ .vmem, ⟨10, _⟩ => ⟨S128x8x1024, .bf16⟩
  | .local _ .vmem, ⟨11, _⟩ => ⟨S128x8x1024, .bf16⟩
  | .local _ .smem, ⟨0, _⟩ => ⟨S1, .f32⟩
  | .local _ .smem, ⟨1, _⟩ => ⟨S1, .f32⟩
  | _, _ => ⟨S6x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_call0_v15 : Ref sig .tc := ⟨.hbm, 25, rfl⟩
abbrev main_call0_c_5 : Ref sig .tc := ⟨.hbm, 26, rfl⟩
abbrev main_call0_v16 : Ref sig .tc := ⟨.hbm, 27, rfl⟩
abbrev main_call0_v17 : Ref sig .tc := ⟨.hbm, 28, rfl⟩
abbrev main_call0_c_6 : Ref sig .tc := ⟨.hbm, 29, rfl⟩
abbrev main_call0_v18 : Ref sig .tc := ⟨.hbm, 30, rfl⟩
abbrev main_call0_v19 : Ref sig .tc := ⟨.hbm, 31, rfl⟩
abbrev main_call0_c_7 : Ref sig .tc := ⟨.hbm, 32, rfl⟩
abbrev main_call0_v20 : Ref sig .tc := ⟨.hbm, 33, rfl⟩
abbrev main_call0_v21 : Ref sig .tc := ⟨.hbm, 34, rfl⟩
abbrev main_call0_c_8 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_9 : Ref sig .tc := ⟨.hbm, 42, rfl⟩
abbrev main_call0_v28 : Ref sig .tc := ⟨.hbm, 43, rfl⟩
abbrev main_call0_v29 : Ref sig .tc := ⟨.hbm, 44, rfl⟩
abbrev main_call0_c_10 : Ref sig .tc := ⟨.hbm, 45, rfl⟩
abbrev main_call0_v30 : Ref sig .tc := ⟨.hbm, 46, rfl⟩
abbrev main_call0_v31 : Ref sig .tc := ⟨.hbm, 47, rfl⟩
abbrev main_v0_1 : Ref sig .tc := ⟨.hbm, 48, rfl⟩
abbrev main_v0_0 : Ref sig .tc := ⟨.hbm, 49, rfl⟩
abbrev main_c : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_c : Ref sig .tc := ⟨.hbm, 56, rfl⟩
abbrev main_call1_v2 : Ref sig .tc := ⟨.hbm, 57, rfl⟩
abbrev main_call1_v3 : Ref sig .tc := ⟨.hbm, 58, rfl⟩
abbrev main_call1_c_0 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_c_2 : Ref sig .tc := ⟨.hbm, 68, rfl⟩
abbrev main_call1_v11 : Ref sig .tc := ⟨.hbm, 69, rfl⟩
abbrev main_call1_v12 : Ref sig .tc := ⟨.hbm, 70, rfl⟩
abbrev main_call1_c_3 : Ref sig .tc := ⟨.hbm, 71, rfl⟩
abbrev main_call1_v13 : Ref sig .tc := ⟨.hbm, 72, rfl⟩
abbrev main_call1_v14 : Ref sig .tc := ⟨.hbm, 73, rfl⟩
abbrev main_call1_c_4 : Ref sig .tc := ⟨.hbm, 74, rfl⟩
abbrev main_call1_v15 : Ref sig .tc := ⟨.hbm, 75, rfl⟩
abbrev main_call1_v16 : Ref sig .tc := ⟨.hbm, 76, rfl⟩
abbrev main_call1_c_5 : Ref sig .tc := ⟨.hbm, 77, rfl⟩
abbrev main_call1_v17 : Ref sig .tc := ⟨.hbm, 78, rfl⟩
abbrev main_call1_v18 : Ref sig .tc := ⟨.hbm, 79, rfl⟩
abbrev main_call1_c_6 : Ref sig .tc := ⟨.hbm, 80, rfl⟩
abbrev main_call1_v19 : Ref sig .tc := ⟨.hbm, 81, rfl⟩
abbrev main_call1_v20 : Ref sig .tc := ⟨.hbm, 82, rfl⟩
abbrev main_call1_c_7 : Ref sig .tc := ⟨.hbm, 83, rfl⟩
abbrev main_call1_v21 : Ref sig .tc := ⟨.hbm, 84, rfl⟩
abbrev main_call1_v22 : Ref sig .tc := ⟨.hbm, 85, rfl⟩
abbrev main_call1_c_8 : Ref sig .tc := ⟨.hbm, 86, rfl⟩
abbrev main_call1_c_9 : Ref sig .tc := ⟨.hbm, 87, rfl⟩
abbrev main_call1_v23 : Ref sig .tc := ⟨.hbm, 88, rfl⟩
abbrev main_call1_v24 : Ref sig .tc := ⟨.hbm, 89, rfl⟩
abbrev main_call1_v25 : Ref sig .tc := ⟨.hbm, 90, rfl⟩
abbrev main_call1_v26 : Ref sig .tc := ⟨.hbm, 91, rfl⟩
abbrev main_call1_v27 : Ref sig .tc := ⟨.hbm, 92, rfl⟩
abbrev main_call1_c_10 : Ref sig .tc := ⟨.hbm, 93, rfl⟩
abbrev main_call1_v28 : Ref sig .tc := ⟨.hbm, 94, rfl⟩
abbrev main_call1_v29 : Ref sig .tc := ⟨.hbm, 95, rfl⟩
abbrev main_call1_v30 : Ref sig .tc := ⟨.hbm, 96, rfl⟩
abbrev main_call1_c_11 : Ref sig .tc := ⟨.hbm, 97, rfl⟩
abbrev main_call1_v31 : Ref sig .tc := ⟨.hbm, 98, rfl⟩
abbrev main_call1_v32 : Ref sig .tc := ⟨.hbm, 99, rfl⟩
abbrev main_call1_v33 : Ref sig .tc := ⟨.hbm, 100, rfl⟩
abbrev main_call1_v34 : Ref sig .tc := ⟨.hbm, 101, rfl⟩
abbrev main_call1_c_12 : Ref sig .tc := ⟨.hbm, 102, rfl⟩
abbrev main_call1_v35 : Ref sig .tc := ⟨.hbm, 103, rfl⟩
abbrev main_call1_v36 : Ref sig .tc := ⟨.hbm, 104, rfl⟩
abbrev main_call1_c_13 : Ref sig .tc := ⟨.hbm, 105, rfl⟩
abbrev main_call1_v37 : Ref sig .tc := ⟨.hbm, 106, rfl⟩
abbrev main_call1_v38 : Ref sig .tc := ⟨.hbm, 107, rfl⟩
abbrev main_call1_v39 : Ref sig .tc := ⟨.hbm, 108, rfl⟩
abbrev main_call1_v40 : Ref sig .tc := ⟨.hbm, 109, rfl⟩
abbrev main_call1_v41 : Ref sig .tc := ⟨.hbm, 110, rfl⟩
abbrev main_call1_v42 : Ref sig .tc := ⟨.hbm, 111, rfl⟩
abbrev main_v3 : Ref sig .tc := ⟨.hbm, 112, rfl⟩
abbrev main_v4 : Ref sig .tc := ⟨.hbm, 113, rfl⟩
abbrev main_v5 : Ref sig .tc := ⟨.hbm, 114, rfl⟩
abbrev main_v6 : Ref sig .tc := ⟨.hbm, 115, rfl⟩
abbrev main_v7 : Ref sig .tc := ⟨.hbm, 116, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [BitOps F]

abbrev grid0 : Pipeline.Grid := ⟨2, ![6, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![6, 3, 24], ![false, false, false]⟩

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat, arg2.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x1024x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S7168x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S128x8x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== Reference.lean ====
abbrev S6x3072x7168 : Shape := ⟨3, ![6, 3072, 7168]⟩
abbrev S1 : Shape := ⟨1, ![1]⟩
abbrev S7168x24576 : Shape := ⟨2, ![7168, 24576]⟩
abbrev S24576 : Shape := ⟨1, ![24576]⟩
abbrev S_ : Shape := ⟨0, ![]⟩
abbrev S6x3072x24576 : Shape := ⟨3, ![6, 3072, 24576]⟩
abbrev S1x1x24576 : Shape := ⟨3, ![1, 1, 24576]⟩

abbrev nBuf : Space → Nat
  | .hbm => 115
  | .vmem => 5
  | .smem => 2
  | _ => 0

abbrev bufTy : (tb : Table) → Fin (tcTables nBuf tb) → BufTy
  | .hbm, ⟨0, _⟩ => ⟨S6x3072x7168, .bf16⟩
  | .hbm, ⟨1, _⟩ => ⟨S1, .f32⟩
  | .hbm, ⟨2, _⟩ => ⟨S7168x24576, .fp8e4m3⟩
  | .hbm, ⟨3, _⟩ => ⟨S24576, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S_, .f32⟩
  | .hbm, ⟨54, _⟩ => ⟨S1, .f32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S1, .f32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S1, .i1⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S1, .i1⟩
  | .hbm, ⟨105, _⟩ => ⟨S_, .i32⟩
  | .hbm, ⟨106, _⟩ => ⟨S1, .i32⟩
  | .hbm, ⟨107, _⟩ => ⟨S1, .i1⟩
  | .hbm, ⟨108, _⟩ => ⟨S1, .i32⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .f32⟩
  | .hbm, ⟨113, _⟩ => ⟨S6x3072x24576, .bf16⟩
  | .hbm, ⟨114, _⟩ => ⟨S6x3072x7168, .fp8e4m3⟩
  | .local _ .vmem, ⟨0, _⟩ => ⟨S6x3072x7168, .bf16⟩
  | .local _ .vmem, ⟨1, _⟩ => ⟨S7168x24576, .fp8e4m3⟩
  | .local _ .vmem, ⟨2, _⟩ => ⟨S24576, .f32⟩
  | .local _ .vmem, ⟨3, _⟩ => ⟨S6x3072x24576, .bf16⟩
  | .local _ .vmem, ⟨4, _⟩ => ⟨S6x3072x7168, .fp8e4m3⟩
  | .local _ .smem, ⟨0, _⟩ => ⟨S1, .f32⟩
  | .local _ .smem, ⟨1, _⟩ => ⟨S1, .f32⟩
  | _, _ => ⟨S6x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_call0_v15 : Ref sig .tc := ⟨.hbm, 25, rfl⟩
abbrev main_call0_c_5 : Ref sig .tc := ⟨.hbm, 26, rfl⟩
abbrev main_call0_v16 : Ref sig .tc := ⟨.hbm, 27, rfl⟩
abbrev main_call0_v17 : Ref sig .tc := ⟨.hbm, 28, rfl⟩
abbrev main_call0_c_6 : Ref sig .tc := ⟨.hbm, 29, rfl⟩
abbrev main_call0_v18 : Ref sig .tc := ⟨.hbm, 30, rfl⟩
abbrev main_call0_v19 : Ref sig .tc := ⟨.hbm, 31, rfl⟩
abbrev main_call0_c_7 : Ref sig .tc := ⟨.hbm, 32, rfl⟩
abbrev main_call0_v20 : Ref sig .tc := ⟨.hbm, 33, rfl⟩
abbrev main_call0_v21 : Ref sig .tc := ⟨.hbm, 34, rfl⟩
abbrev main_call0_c_8 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_9 : Ref sig .tc := ⟨.hbm, 42, rfl⟩
abbrev main_call0_v28 : Ref sig .tc := ⟨.hbm, 43, rfl⟩
abbrev main_call0_v29 : Ref sig .tc := ⟨.hbm, 44, rfl⟩
abbrev main_call0_c_10 : Ref sig .tc := ⟨.hbm, 45, rfl⟩
abbrev main_call0_v30 : Ref sig .tc := ⟨.hbm, 46, rfl⟩
abbrev main_call0_v31 : Ref sig .tc := ⟨.hbm, 47, rfl⟩
abbrev main_v0_1 : Ref sig .tc := ⟨.hbm, 48, rfl⟩
abbrev main_v0_0 : Ref sig .tc := ⟨.hbm, 49, rfl⟩
abbrev main_c : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_c : Ref sig .tc := ⟨.hbm, 56, rfl⟩
abbrev main_call1_v2 : Ref sig .tc := ⟨.hbm, 57, rfl⟩
abbrev main_call1_v3 : Ref sig .tc := ⟨.hbm, 58, rfl⟩
abbrev main_call1_c_0 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_c_2 : Ref sig .tc := ⟨.hbm, 68, rfl⟩
abbrev main_call1_v11 : Ref sig .tc := ⟨.hbm, 69, rfl⟩
abbrev main_call1_v12 : Ref sig .tc := ⟨.hbm, 70, rfl⟩
abbrev main_call1_c_3 : Ref sig .tc := ⟨.hbm, 71, rfl⟩
abbrev main_call1_v13 : Ref sig .tc := ⟨.hbm, 72, rfl⟩
abbrev main_call1_v14 : Ref sig .tc := ⟨.hbm, 73, rfl⟩
abbrev main_call1_c_4 : Ref sig .tc := ⟨.hbm, 74, rfl⟩
abbrev main_call1_v15 : Ref sig .tc := ⟨.hbm, 75, rfl⟩
abbrev main_call1_v16 : Ref sig .tc := ⟨.hbm, 76, rfl⟩
abbrev main_call1_c_5 : Ref sig .tc := ⟨.hbm, 77, rfl⟩
abbrev main_call1_v17 : Ref sig .tc := ⟨.hbm, 78, rfl⟩
abbrev main_call1_v18 : Ref sig .tc := ⟨.hbm, 79, rfl⟩
abbrev main_call1_c_6 : Ref sig .tc := ⟨.hbm, 80, rfl⟩
abbrev main_call1_v19 : Ref sig .tc := ⟨.hbm, 81, rfl⟩
abbrev main_call1_v20 : Ref sig .tc := ⟨.hbm, 82, rfl⟩
abbrev main_call1_c_7 : Ref sig .tc := ⟨.hbm, 83, rfl⟩
abbrev main_call1_v21 : Ref sig .tc := ⟨.hbm, 84, rfl⟩
abbrev main_call1_v22 : Ref sig .tc := ⟨.hbm, 85, rfl⟩
abbrev main_call1_c_8 : Ref sig .tc := ⟨.hbm, 86, rfl⟩
abbrev main_call1_c_9 : Ref sig .tc := ⟨.hbm, 87, rfl⟩
abbrev main_call1_v23 : Ref sig .tc := ⟨.hbm, 88, rfl⟩
abbrev main_call1_v24 : Ref sig .tc := ⟨.hbm, 89, rfl⟩
abbrev main_call1_v25 : Ref sig .tc := ⟨.hbm, 90, rfl⟩
abbrev main_call1_v26 : Ref sig .tc := ⟨.hbm, 91, rfl⟩
abbrev main_call1_v27 : Ref sig .tc := ⟨.hbm, 92, rfl⟩
abbrev main_call1_c_10 : Ref sig .tc := ⟨.hbm, 93, rfl⟩
abbrev main_call1_v28 : Ref sig .tc := ⟨.hbm, 94, rfl⟩
abbrev main_call1_v29 : Ref sig .tc := ⟨.hbm, 95, rfl⟩
abbrev main_call1_v30 : Ref sig .tc := ⟨.hbm, 96, rfl⟩
abbrev main_call1_c_11 : Ref sig .tc := ⟨.hbm, 97, rfl⟩
abbrev main_call1_v31 : Ref sig .tc := ⟨.hbm, 98, rfl⟩
abbrev main_call1_v32 : Ref sig .tc := ⟨.hbm, 99, rfl⟩
abbrev main_call1_v33 : Ref sig .tc := ⟨.hbm, 100, rfl⟩
abbrev main_call1_v34 : Ref sig .tc := ⟨.hbm, 101, rfl⟩
abbrev main_call1_c_12 : Ref sig .tc := ⟨.hbm, 102, rfl⟩
abbrev main_call1_v35 : Ref sig .tc := ⟨.hbm, 103, rfl⟩
abbrev main_call1_v36 : Ref sig .tc := ⟨.hbm, 104, rfl⟩
abbrev main_call1_c_13 : Ref sig .tc := ⟨.hbm, 105, rfl⟩
abbrev main_call1_v37 : Ref sig .tc := ⟨.hbm, 106, rfl⟩
abbrev main_call1_v38 : Ref sig .tc := ⟨.hbm, 107, rfl⟩
abbrev main_call1_v39 : Ref sig .tc := ⟨.hbm, 108, rfl⟩
abbrev main_call1_v40 : Ref sig .tc := ⟨.hbm, 109, rfl⟩
abbrev main_call1_v41 : Ref sig .tc := ⟨.hbm, 110, rfl⟩
abbrev main_call1_v42 : Ref sig .tc := ⟨.hbm, 111, rfl⟩
abbrev main_v3 : Ref sig .tc := ⟨.hbm, 112, rfl⟩
abbrev main_v4_0 : Ref sig .tc := ⟨.hbm, 113, rfl⟩
abbrev main_v4_1 : Ref sig .tc := ⟨.hbm, 114, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S6x3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x24576 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3072x24576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x3072x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== At.lean ====
abbrev S6x3072x7168 : Shape := ⟨3, ![6, 3072, 7168]⟩
abbrev S1 : Shape := ⟨1, ![1]⟩
abbrev S7168x24576 : Shape := ⟨2, ![7168, 24576]⟩
abbrev S24576 : Shape := ⟨1, ![24576]⟩
abbrev S1x512x7168 : Shape := ⟨3, ![1, 512, 7168]⟩
abbrev S1x24576 : Shape := ⟨2, ![1, 24576]⟩
abbrev S2304x8x24576 : Shape := ⟨3, ![2304, 8, 24576]⟩
abbrev S1x1024x7168 : Shape := ⟨3, ![1, 1024, 7168]⟩
abbrev S7168x1024 : Shape := ⟨2, ![7168, 1024]⟩
abbrev S1x1024 : Shape := ⟨2, ![1, 1024]⟩
abbrev S128x8x1024 : Shape := ⟨3, ![128, 8, 1024]⟩
abbrev S1024x7168 : Shape := ⟨2, ![1024, 7168]⟩
abbrev S1024x1024 : Shape := ⟨2, ![1024, 1024]⟩
abbrev S6x3072x24576 : Shape := ⟨3, ![6, 3072, 24576]⟩

abbrev nBuf : Space → Nat
  | .hbm => 9
  | .vmem => 12
  | .smem => 2
  | _ => 0

abbrev bufTy : (tb : Table) → Fin (tcTables nBuf tb) → BufTy
  | .hbm, ⟨0, _⟩ => ⟨S6x3072x7168, .bf16⟩
  | .hbm, ⟨1, _⟩ => ⟨S1, .f32⟩
  | .hbm, ⟨2, _⟩ => ⟨S1, .f32⟩
  | .hbm, ⟨3, _⟩ => ⟨S7168x24576, .fp8e4m3⟩
  | .hbm, ⟨4, _⟩ => ⟨S24576, .f32⟩
  | .hbm, ⟨5, _⟩ => ⟨S6x3072x7168, .fp8e4m3⟩
  | .hbm, ⟨6, _⟩ => ⟨S1x24576, .f32⟩
  | .hbm, ⟨7, _⟩ => ⟨S2304x8x24576, .bf16⟩
  | .hbm, ⟨8, _⟩ => ⟨S6x3072x24576, .bf16⟩
  | .local _ .vmem, ⟨0, _⟩ => ⟨S1x512x7168, .bf16⟩
  | .local _ .vmem, ⟨1, _⟩ => ⟨S1x512x7168, .bf16⟩
  | .local _ .vmem, ⟨2, _⟩ => ⟨S1x512x7168, .fp8e4m3⟩
  | .local _ .vmem, ⟨3, _⟩ => ⟨S1x512x7168, .fp8e4m3⟩
  | .local _ .vmem, ⟨4, _⟩ => ⟨S1x1024x7168, .fp8e4m3⟩
  | .local _ .vmem, ⟨5, _⟩ => ⟨S1x1024x7168, .fp8e4m3⟩
  | .local _ .vmem, ⟨6, _⟩ => ⟨S7168x1024, .fp8e4m3⟩
  | .local _ .vmem, ⟨7, _⟩ => ⟨S7168x1024, .fp8e4m3⟩
  | .local _ .vmem, ⟨8, _⟩ => ⟨S1x1024, .f32⟩
  | .local _ .vmem, ⟨9, _⟩ => ⟨S1x1024, .f32⟩
  | .local _ .vmem, ⟨10, _⟩ => ⟨S128x8x1024, .bf16⟩
  | .local _ .vmem, ⟨11, _⟩ => ⟨S128x8x1024, .bf16⟩
  | .local _ .smem, ⟨0, _⟩ => ⟨S1, .f32⟩
  | .local _ .smem, ⟨1, _⟩ => ⟨S1, .f32⟩
  | _, _ => ⟨S6x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![6, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![6, 3, 24], ![false, false, false]⟩

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat, arg2.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x1024x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S7168x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S128x8x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== RefAtIdeal.lean ====
abbrev S6x3072x7168 : Shape := ⟨3, ![6, 3072, 7168]⟩
abbrev S1 : Shape := ⟨1, ![1]⟩
abbrev S7168x24576 : Shape := ⟨2, ![7168, 24576]⟩
abbrev S24576 : Shape := ⟨1, ![24576]⟩
abbrev S6x3072x24576 : Shape := ⟨3, ![6, 3072, 24576]⟩
abbrev S1x1x24576 : Shape := ⟨3, ![1, 1, 24576]⟩

abbrev nBuf : Space → Nat
  | .hbm => 7
  | .vmem => 5
  | .smem => 2
  | _ => 0

abbrev bufTy : (tb : Table) → Fin (tcTables nBuf tb) → BufTy
  | .hbm, ⟨0, _⟩ => ⟨S6x3072x7168, .bf16⟩
  | .hbm, ⟨1, _⟩ => ⟨S1, .f32⟩
  | .hbm, ⟨2, _⟩ => ⟨S1, .f32⟩
  | .hbm, ⟨3, _⟩ => ⟨S7168x24576, .fp8e4m3⟩
  | .hbm, ⟨4, _⟩ => ⟨S24576, .f32⟩
  | .hbm, ⟨5, _⟩ => ⟨S6x3072x24576, .bf16⟩
  | .hbm, ⟨6, _⟩ => ⟨S6x3072x7168, .fp8e4m3⟩
  | .local _ .vmem, ⟨0, _⟩ => ⟨S6x3072x7168, .bf16⟩
  | .local _ .vmem, ⟨1, _⟩ => ⟨S7168x24576, .fp8e4m3⟩
  | .local _ .vmem, ⟨2, _⟩ => ⟨S24576, .f32⟩
  | .local _ .vmem, ⟨3, _⟩ => ⟨S6x3072x24576, .bf16⟩
  | .local _ .vmem, ⟨4, _⟩ => ⟨S6x3072x7168, .fp8e4m3⟩
  | .local _ .smem, ⟨0, _⟩ => ⟨S1, .f32⟩
  | .local _ .smem, ⟨1, _⟩ => ⟨S1, .f32⟩
  | _, _ => ⟨S6x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x24576 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3072x24576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x3072x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.AtRun.lean ====
/-
  The run of `AtIdeal`, with every buffer it leaves.
-/
module

public import proofs.«01_k».proof.Proof.Gen.AtIdeal.Frame

@[expose] public section

set_option maxRecDepth 16384

noncomputable section

namespace Cert.AtIdeal.Run

open Cert.AtIdeal Cert.AtIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with each of the program's buffers at the contents `Gen.W4` names: the host operations and the two
    grids, applied in order to the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.AtIdeal.Run

end
-- ==== Proof.Spec.lean ====
/-
  What the layer computes, as functions of whole arrays.  `codes` is the quantiser: every element of the
  activations times the reciprocal scale, clamped to [-448, 448], narrowed to the 8-bit float format.  `product` is
  the layer's result over the extended reals: the row of codes against the column of weights, summed over the whole of
  the contracted axis, times the activation scale times the column's weight scale.
-/
module

public import proofs.«01_k».proof.Defs
public import Idealize.ShloMosaic.Lib.Pipeline.ValueKit

@[expose] public section

set_option maxRecDepth 16384

noncomputable section

namespace Cert.Spec

open Idealize.ShloMosaic

variable {F : FTy → Type} [FloatOps F]

/-- One element of the quantiser: `x * inv`, clamped to [-448, 448], narrowed to the 8-bit format. -/
def code (x : F .bf16) (inv : F .f32) : F .fp8e4m3 :=
  FloatOps.truncf .fp8e4m3 (by decide) (FloatOps.minimumf (Scalar.ofBits .f32 0x43E00000#32)
    (FloatOps.maximumf (Scalar.ofBits .f32 0xC3E00000#32)
      (FloatOps.mulf (FloatOps.extf .f32 (by decide) x) inv)))

/-- The quantiser on the whole array of activations, at one reciprocal scale. -/
def codes (x : FVec F ⟨3, ![6, 3072, 7168]⟩ .bf16) (inv : FVec F ⟨1, ![1]⟩ .f32) :
    FVec F ⟨3, ![6, 3072, 7168]⟩ .fp8e4m3 :=
  fun i => code (x i) (inv (ix1 0))

/-- The scaled product of codes and weights over the extended reals, element by element:
    `(∑ k, q[b, r, k] * w[k, n]) * (scale * ws[n])`. -/
def product (q : FVec Ideal ⟨3, ![6, 3072, 7168]⟩ .fp8e4m3) (scale : FVec Ideal ⟨1, ![1]⟩ .f32)
    (w : FVec Ideal ⟨2, ![7168, 24576]⟩ .fp8e4m3) (ws : FVec Ideal ⟨1, ![24576]⟩ .f32) :
    FVec Ideal ⟨3, ![6, 3072, 24576]⟩ .bf16 :=
  fun i => ((∑ k : Fin 7168, (q (ix3 (i 0) (i 1) k) : EReal) * (w (ix2 k (i 2)) : EReal))
    * ((scale (ix1 0) : EReal) * (ws (ix1 (i 2)) : EReal)) : EReal)

/-- An array of one element has one index. -/
theorem one_idx (i j : (⟨1, ![1]⟩ : Shape).Idx) : i = j := by
  funext a
  match a with
  | ⟨0, _⟩ => exact Subsingleton.elim (α := Fin 1) (i 0) (j 0)

end Cert.Spec

end
-- ==== Proof.AtRegions.lean ====
/-
  What the two grids of `AtIdeal` leave in their result arrays, from any contents at the grid's entry.
  `codes_final`: the quantiser's 6 x 6 blocks of 512 rows are the blocks of ONE whole-array function, `Spec.codes`.
  `product_final`: the product's 6 x 3 x 24 blocks of 1024 rows by 1024 columns are the blocks of `Spec.product`,
  laid out as [2304, 8, 24576].
-/
module

public import proofs.«01_k».proof.Proof.Gen.AtIdeal.Frame
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.AtIdeal.Regions

open Cert.AtIdeal Cert.AtIdeal.Gen

/-! ## The quantiser's grid -/

/-- Where each window of the quantiser's grid stands at a grid point. -/
theorem idx0 : ∀ t : Fin cfg0.N, win0_0.index t = ![0] ∧
    win0_1.index t = ![(grid0.coords t 0).val, (grid0.coords t 1).val, 0] ∧
    win0_2.index t = ![(grid0.coords t 0).val, (grid0.coords t 1).val, 0] :=
  (by decide +kernel : ∀ t : Fin grid0.N, _)

section Codes

variable {F : FTy → Type} [FloatOps F]
variable (V : (c : Dev nD) → (b : Ref sig .tc) → Buf (Elt F) ((c : Thread nD τ).loc b))

/-- What a grid point stores at an index of its block is the whole-array quantiser where the block lies. -/
theorem codes_point (c : Dev nD) (t : Fin cfg0.N) (y) :
    k0_pay1 (iblk0 V c 1 t) (iblk0 V c 0 t (ix1 0)) y
      = Spec.codes (V c main_arg0) (V c main_arg1) (((cfg0.win 2).blk t).view.emb y) := by
  pointwise [k0_pay1, Spec.codes, Spec.code]
  blk_point [iblk0, idx0 t]

/-- The array of codes after the quantiser's grid. -/
theorem codes_final (c : Dev nD) :
    (dat0 V c).arrAt 2 cfg0.N = Spec.codes (V c main_arg0) (V c main_arg1) := by
  refine (dat0 V c).arrAt_eq_of_covers 2 _ (by decide +kernel) fun t _ y => ?_
  blk_simp
  rw [after0_2]
  unfold outsAt0
  frame_out
  exact (congrArg (fun v => k0_pay1 (iblk0 V c 1 t) v y)
    (congrArg (iblk0 V c 0 t) (Spec.one_idx _ (ix1 0)))).trans (codes_point V c t y)

end Codes

/-! ## The product's grid -/

/-- Where each window of the product's grid stands at a grid point. -/
theorem idx1 : ∀ t : Fin cfg1.N, win1_0.index t = ![0] ∧
    win1_1.index t = ![(grid1.coords t 0).val, (grid1.coords t 1).val, 0] ∧
    win1_2.index t = ![0, (grid1.coords t 2).val] ∧
    win1_3.index t = ![0, (grid1.coords t 2).val] ∧
    win1_4.index t = ![(grid1.coords t 0).val * 3 + (grid1.coords t 1).val, 0, (grid1.coords t 2).val] :=
  (by decide +kernel : ∀ t : Fin grid1.N, _)

section Product

variable (V : (c : Dev nD) → (b : Ref sig .tc) → Buf (Elt Ideal) ((c : Thread nD τ).loc b))

/-- The whole product, with the rows laid out as the kernel writes them: [2304, 8, 24576]. -/
abbrev laidOut (q : FVec Ideal S6x3072x7168 .fp8e4m3) (scale : FVec Ideal S1 .f32) (w : FVec Ideal S7168x24576 .fp8e4m3)
    (ws : FVec Ideal S1x24576 .f32) : FVec Ideal S2304x8x24576 .bf16 :=
  fun i => Spec.product q scale w (fun j => ws (ix2 0 (j 0)))
    (ix3 ⟨((i 0).val * 8 + (i 1).val) / 3072, by have := (i 0).isLt; have := (i 1).isLt; simp at *; omega⟩
      ⟨((i 0).val * 8 + (i 1).val) % 3072, by omega⟩ (i 2))

/-- What a grid point stores at an index of its block is the whole product where the block lies. -/
theorem product_point (c : Dev nD) (t : Fin cfg1.N) (y) :
    k1_pay1 (iblk1 V c 1 t) (iblk1 V c 2 t) (iblk1 V c 0 t (ix1 0)) (iblk1 V c 3 t) y
      = laidOut (V c main_v0) (V c main_arg2) (V c main_arg3) (V c main_v1) (((cfg1.win 4).blk t).view.emb y) := by
  pointwise [k1_pay1, laidOut, Spec.product]
  blk_point [iblk1, idx1 t]
  all_goals
    have h1 : (grid1.coords t 1).val < 3 := (grid1.coords t 1).isLt
    omega

/-- The array of results after the product's grid. -/
theorem product_final (c : Dev nD) :
    (dat1 V c).arrAt 4 cfg1.N = laidOut (V c main_v0) (V c main_arg2) (V c main_arg3) (V c main_v1) := by
  refine (dat1 V c).arrAt_eq_of_covers 4 _ (by decide +kernel) fun t _ y => ?_
  blk_simp
  rw [after1_4]
  unfold outsAt1
  frame_out
  exact (congrArg (fun v => k1_pay1 (iblk1 V c 1 t) (iblk1 V c 2 t) v (iblk1 V c 3 t) y)
    (congrArg (iblk1 V c 0 t) (Spec.one_idx _ (ix1 0)))).trans (product_point V c t y)

end Product

end Cert.AtIdeal.Regions

end
-- ==== Proof.AtValue.lean ====
/-
  What the run of `AtIdeal` leaves in its results: the codes are `Spec.codes` of the activations and the reciprocal scale,
  the results are `Spec.product` of those codes and the weights, the scale is the argument.
-/
module

public import proofs.«01_k».proof.Proof.AtRun
public import proofs.«01_k».proof.Proof.AtRegions

@[expose] public section

set_option maxRecDepth 16384

noncomputable section

open Idealize.ShloMosaic Idealize.ShloMosaic.TcCoe Idealize.SL.Sem

namespace Cert.AtIdeal.Value

open Cert.AtIdeal Cert.AtIdeal.Gen

variable (m : (ℓ : Loc nD τ sig) → Buf (Elt Ideal) ℓ) (ρ : Dev nD → PrngReg)

/-- The codes, as a function of the launch memory. -/
abbrev codes (c : Dev nD) : FVec Ideal S6x3072x7168 .fp8e4m3 :=
  Spec.codes (m ((c : Thread nD τ).loc main_arg0)) (m ((c : Thread nD τ).loc main_arg1))

/-- The results, as a function of the launch memory. -/
abbrev results (c : Dev nD) : FVec Ideal S6x3072x24576 .bf16 :=
  Spec.product (codes m c) (m ((c : Thread nD τ).loc main_arg2)) (m ((c : Thread nD τ).loc main_arg3))
    (m ((c : Thread nD τ).loc main_arg4))

/-- The codes between the two grids. -/
theorem codes_mid (c : Dev nD) : W2 m ρ c (Proc.devRef .tc main_v0) = codes m c := by
  rw [W2_of m ρ c main_v0 (by decide)]
  exact (W1_arr m ρ c 2).trans (Regions.codes_final (V0 m ρ) c)

/-- The codes at the end of the run. -/
theorem codes_eq (c : Dev nD) : W4 m ρ c (Proc.devRef .tc main_v0) = codes m c := by
  rw [W4_of m ρ c main_v0 (by decide), W3_of m ρ c main_v0 (by decide +kernel)]
  exact codes_mid m ρ c

/-- The weight scales as the product's grid reads them: the argument, with a leading axis of one. -/
theorem ws_mid (c : Dev nD) : W2 m ρ c (Proc.devRef .tc main_v1)
    = shapeCast S1x24576 (m ((c : Thread nD τ).loc main_arg4)) shapeCasts_S24576_S1x24576 := by
  after_results
  rw [W1_args m ρ c main_arg4 (by decide)]
  rfl

/-- The array that the product's grid leaves. -/
theorem product_mid (c : Dev nD) : W3 m ρ c (Proc.devRef .tc main_v2)
    = Regions.laidOut (codes m c) (m ((c : Thread nD τ).loc main_arg2)) (m ((c : Thread nD τ).loc main_arg3))
      (shapeCast S1x24576 (m ((c : Thread nD τ).loc main_arg4)) shapeCasts_S24576_S1x24576) := by
  refine (W3_arr m ρ c 4).trans ((Regions.product_final (V2 m ρ) c).trans ?_)
  rw [show V2 m ρ c main_v0 = _ from codes_mid m ρ c, show V2 m ρ c main_v1 = _ from ws_mid m ρ c,
    show V2 m ρ c main_arg2 = _ from W2_args m ρ c main_arg2 (by decide),
    show V2 m ρ c main_arg3 = _ from W2_args m ρ c main_arg3 (by decide)]

/-- The kernel's layout [2304, 8, 24576] of the product, read as [6, 3072, 24576], is the product. -/
theorem laidOut_cast (q : FVec Ideal S6x3072x7168 .fp8e4m3) (scale : FVec Ideal S1 .f32)
    (w : FVec Ideal S7168x24576 .fp8e4m3) (ws : FVec Ideal S24576 .f32) :
    shapeCast S6x3072x24576 (Regions.laidOut q scale w (shapeCast S1x24576 ws shapeCasts_S24576_S1x24576))
      shapeCasts_S2304x8x24576_S6x3072x24576 = Spec.product q scale w ws := by
  funext i
  pointwise [Regions.laidOut, Spec.product]
  blk_point []

/-- The results at the end of the run. -/
theorem results_eq (c : Dev nD) : W4 m ρ c (Proc.devRef .tc main_v3) = results m c := by
  refine Eq.trans ?_ (laidOut_cast (codes m c) (m ((c : Thread nD τ).loc main_arg2)) (m ((c : Thread nD τ).loc main_arg3))
    (m ((c : Thread nD τ).loc main_arg4)))
  after_results
  rw [product_mid m ρ c]
  rfl

/-- The run, with the results at their values and the arguments unchanged. -/
theorem run : θ_run defs (onTc (τ := τ) (main (F := Ideal))) ⟨m, fun _ => 0, ρ⟩ (fun r => ∀ c : Dev nD,
      r.2.mem ((c : Thread nD τ).loc main_v3) = results m c
      ∧ r.2.mem ((c : Thread nD τ).loc main_v0) = codes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨(h c _ (mem_uc main_v3 (by decide))).trans (results_eq m ρ c),
     (h c _ (mem_uc main_v0 (by decide))).trans (codes_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (Run.run_all m ρ)

end Cert.AtIdeal.Value

end
-- ==== Proof.KernelRun.lean ====
/-
  The run of `Kernel`, with every buffer it leaves.
-/
module

public import proofs.«01_k».proof.Proof.Gen.Kernel.Frame

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable (m : (ℓ : Loc nD τ sig) → Buf (Elt F) ℓ) (ρ : Dev nD → PrngReg)

set_option backward.isDefEq.respectTransparency.types false in
/-- Every run ends with each of the program's buffers at the contents `Gen.W7` names: the host operations and the two
    grids, applied in order to the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.Kernel.Run

end
-- ==== Proof.KernelRegions.lean ====
/-
  What the quantiser's grid of `Kernel` leaves in the array of codes, from any contents at the grid's entry: its 6 x 6
  blocks of 512 rows are the blocks of ONE whole-array function, `Spec.codes`.
-/
module

public import proofs.«01_k».proof.Proof.Gen.Kernel.Frame
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Kernel.Regions

open Cert.Kernel Cert.Kernel.Gen

/-! ## The quantiser's grid -/

/-- Where each window of the quantiser's grid stands at a grid point. -/
theorem idx0 : ∀ t : Fin cfg0.N, win0_0.index t = ![0] ∧
    win0_1.index t = ![(grid0.coords t 0).val, (grid0.coords t 1).val, 0] ∧
    win0_2.index t = ![(grid0.coords t 0).val, (grid0.coords t 1).val, 0] :=
  (by decide +kernel : ∀ t : Fin grid0.N, _)

section Codes

variable {F : FTy → Type} [BitOps F]
variable (V : (c : Dev nD) → (b : Ref sig .tc) → Buf (Elt F) ((c : Thread nD τ).loc b))

/-- What a grid point stores at an index of its block is the whole-array quantiser where the block lies. -/
theorem codes_point (c : Dev nD) (t : Fin cfg0.N) (y) :
    k0_pay1 (iblk0 V c 1 t) (iblk0 V c 0 t (ix1 0)) y
      = Spec.codes (V c main_arg0) (V c main_v3) (((cfg0.win 2).blk t).view.emb y) := by
  pointwise [k0_pay1, Spec.codes, Spec.code]
  blk_point [iblk0, idx0 t]

/-- The array of codes after the quantiser's grid. -/
theorem codes_final (c : Dev nD) :
    (dat0 V c).arrAt 2 cfg0.N = Spec.codes (V c main_arg0) (V c main_v3) := by
  refine (dat0 V c).arrAt_eq_of_covers 2 _ (by decide +kernel) fun t _ y => ?_
  blk_simp
  rw [after0_2]
  unfold outsAt0
  frame_out
  exact (congrArg (fun v => k0_pay1 (iblk0 V c 1 t) v y)
    (congrArg (iblk0 V c 0 t) (Spec.one_idx _ (ix1 0)))).trans (codes_point V c t y)

end Codes

end Cert.Kernel.Regions

end
-- ==== Proof.KernelValue.lean ====
/-
  What the run of `Kernel` leaves in its results 2 and 3: the codes are `Spec.codes` of the activations and of the
  reciprocal scale that the host operations computed; the scale is the argument.
-/
module

public import proofs.«01_k».proof.Proof.KernelRun
public import proofs.«01_k».proof.Proof.KernelRegions

@[expose] public section

set_option maxRecDepth 16384

noncomputable section

open Idealize.ShloMosaic Idealize.ShloMosaic.TcCoe Idealize.SL.Sem

namespace Cert.Kernel.Value

open Cert.Kernel Cert.Kernel.Gen

variable {F : FTy → Type} [BitOps F]
variable (m : (ℓ : Loc nD τ sig) → Buf (Elt F) ℓ) (ρ : Dev nD → PrngReg)

/-- The codes, as a function of the launch memory: `W3 m ρ c main_v3` is the reciprocal scale that the host operations
    computed from the scale. -/
abbrev codes (c : Dev nD) : FVec F S6x3072x7168 .fp8e4m3 :=
  Spec.codes (m ((c : Thread nD τ).loc main_arg0)) (W3 m ρ c main_v3)

/-- The codes at the end of the run. -/
theorem codes_eq (c : Dev nD) : W7 m ρ c (Proc.devRef .tc main_v4) = codes m ρ c := by
  rw [W7_of m ρ c main_v4 (by decide), W6_of m ρ c main_v4 (by decide +kernel), W5_of m ρ c main_v4 (by decide)]
  refine (W4_arr m ρ c 2).trans ((Regions.codes_final (V3 m ρ) c).trans ?_)
  rw [show V3 m ρ c main_arg0 = m ((c : Thread nD τ).loc main_arg0) from W3_args m ρ c main_arg0 (by decide)]

/-- The run, with the results at their values and the arguments unchanged. -/
theorem run : θ_run defs (onTc (τ := τ) (main (F := F))) ⟨m, fun _ => 0, ρ⟩ (fun r => ∀ c : Dev nD,
      r.2.mem ((c : Thread nD τ).loc main_v4) = codes m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨(h c _ (mem_uc main_v4 (by decide))).trans (codes_eq m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (Run.run_all m ρ)

end Cert.Kernel.Value

end
-- ==== Proof.RefAtValue.lean ====
/-
  What the reference `RefAtIdeal` leaves: the codes are `Spec.codes` of the activations and the reciprocal scale, and the
  results are `Spec.product` of those codes and the weights.
-/
module

public import proofs.«01_k».proof.Proof.Gen.RefAtIdeal.Value
public import proofs.«01_k».proof.Proof.Spec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RefAtIdeal.Final

open Cert.RefAtIdeal Cert.RefAtIdeal.Gen

variable (m : (ℓ : Loc nD τ sig) → Buf (Elt Ideal) ℓ)

/-- Every window of the reference stands at the start of its array. -/
theorem idx : ∀ t : Fin cfg0.N, win0_0.index t = ![0, 0, 0] ∧ win0_1.index t = ![0] ∧ win0_2.index t = ![0] ∧
    win0_3.index t = ![0, 0] ∧ win0_4.index t = ![0] ∧ win0_5.index t = ![0, 0, 0] ∧ win0_6.index t = ![0, 0, 0] :=
  (by decide +kernel : ∀ t : Fin grid0.N, _)

/-- The codes that the reference stores, at an index. -/
theorem codes_point (c : Dev nD) (t : Fin cfg0.N) (y) :
    k0_pay1 (iblk m c 0 t) (iblk m c 1 t (ix1 0)) y
      = Spec.codes (F := Ideal) (m ((c : Thread nD τ).loc main_arg0)) (m ((c : Thread nD τ).loc main_arg1))
        (((cfg0.win 6).blk t).view.emb y) := by
  pointwise [k0_pay1, Spec.codes, Spec.code]
  blk_point [iblk, V, idx t]

/-- The array of codes after the reference. -/
theorem codes_final (c : Dev nD) : (dats m 0 c).arrAt 6 cfg0.N
    = Spec.codes (F := Ideal) (m ((c : Thread nD τ).loc main_arg0)) (m ((c : Thread nD τ).loc main_arg1)) := by
  refine (dats m 0 c).arrAt_eq_of_covers 6 _ (by decide +kernel) fun t _ y => ?_
  blk_simp
  rw [after0_6]
  unfold outsAt0
  frame_out
  simp only [read_unread_whole]
  rw [Spec.one_idx (Shape.Idx.first _) (ix1 0)]
  exact codes_point m c t y

/-- The results that the reference stores, at an index. -/
theorem product_point (c : Dev nD) (t : Fin cfg0.N) (y) :
    k0_pay2 (iblk m c 0 t) (iblk m c 1 t (ix1 0)) (iblk m c 3 t) (iblk m c 2 t (ix1 0)) (iblk m c 4 t) y
      = Spec.product (Spec.codes (F := Ideal) (m ((c : Thread nD τ).loc main_arg0)) (m ((c : Thread nD τ).loc main_arg1)))
        (m ((c : Thread nD τ).loc main_arg2)) (m ((c : Thread nD τ).loc main_arg3)) (m ((c : Thread nD τ).loc main_arg4))
        (((cfg0.win 5).blk t).view.emb y) := by
  pointwise [k0_pay2, k0_pay1, Spec.product, Spec.codes, Spec.code]
  blk_point [iblk, V, idx t]

/-- The array of results after the reference. -/
theorem product_final (c : Dev nD) : (dats m 0 c).arrAt 5 cfg0.N
    = Spec.product (Spec.codes (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  simp only [read_unread_whole]
  rw [Spec.one_idx (Shape.Idx.first _) (ix1 0)]
  exact product_point m c t y

end Cert.RefAtIdeal.Final

end
-- ==== Proof.ReferenceValue.lean ====
/-
  What the reference `Reference` leaves in the array of codes, word for word: `Spec.codes` of the activations and of the
  reciprocal scale that its host operations computed.
-/
module

public import proofs.«01_k».proof.Proof.Gen.Reference.Value
public import proofs.«01_k».proof.Proof.Spec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference.Final

open Cert.Reference Cert.Reference.Gen

variable {F : FTy → Type} [BitOps F]
variable (m : (ℓ : Loc nD τ sig) → Buf (Elt F) ℓ)

/-- Every window of the reference stands at the start of its array. -/
theorem idx : ∀ t : Fin cfg0.N, win0_0.index t = ![0, 0, 0] ∧ win0_1.index t = ![0] ∧ win0_2.index t = ![0] ∧
    win0_3.index t = ![0, 0] ∧ win0_4.index t = ![0] ∧ win0_5.index t = ![0, 0, 0] ∧ win0_6.index t = ![0, 0, 0] :=
  (by decide +kernel : ∀ t : Fin grid0.N, _)

/-- The codes that the reference stores, at an index, from any contents `X` of its buffers. -/
theorem codes_point_of (c : Dev nD) (X : (b : Ref sig .tc) → Buf (Elt F) ((c : Thread nD τ).loc b)) (t : Fin cfg0.N) (y) :
    k0_pay1 (((cfg0.win 0).blk t).view.read (Elt F) (X main_arg0)) (((cfg0.win 1).blk t).view.read (Elt F) (X main_v3) (ix1 0)) y
      = Spec.codes (X main_arg0) (X main_v3) (((cfg0.win 6).blk t).view.emb y) := by
  pointwise [k0_pay1, Spec.codes, Spec.code]
  blk_point [idx t]

/-- The same at the contents that the host operations leave. -/
theorem codes_point (c : Dev nD) (t : Fin cfg0.N) (y) :
    k0_pay1 (iblk m c 0 t) (iblk m c 1 t (ix1 0)) y
      = Spec.codes (V m c main_arg0) (V m c main_v3) (((cfg0.win 6).blk t).view.emb y) :=
  codes_point_of c (V m c) t y

/-- The array of codes after the reference. -/
theorem codes_final (c : Dev nD) : (dats m 0 c).arrAt 6 cfg0.N
    = Spec.codes (V m c main_arg0) (V m c main_v3) := by
  refine (dats m 0 c).arrAt_eq_of_covers 6 _ (by decide +kernel) fun t _ y => ?_
  blk_simp
  rw [after0_6]
  unfold outsAt0
  frame_out
  simp only [read_unread_whole]
  rw [Spec.one_idx (Shape.Idx.first _) (ix1 0)]
  exact codes_point m c t y

end Cert.Reference.Final

end
-- ==== Proof.RefInv.lean ====
/-
  The reciprocal scale `inv`: the kernel's and the reference's host operations compute the same words from the same scale.
-/
module

public import proofs.«01_k».proof.Defs
public import proofs.«01_k».proof.Proof.Gen.Kernel.Frame
public import proofs.«01_k».proof.Proof.Gen.Reference.Frame
public import Idealize.ShloMosaic.Lib.StableHlo.RunRead

@[expose] public section

set_option maxRecDepth 16384

noncomputable section

open Idealize.ShloMosaic Idealize.ShloMosaic.TcCoe Idealize.SL.Sem

namespace Cert.Inv

/-- The reciprocal scale that the kernel's host operations leave for the quantiser is the reference's. -/
theorem inv_eq (m : (ℓ : Loc Cert.Kernel.nD Cert.Kernel.τ Cert.Kernel.sig) → Buf (Elt Bits) ℓ)
    (ρ : Dev Cert.Kernel.nD → PrngReg)
    (m' : (ℓ : Loc Cert.Reference.nD Cert.Reference.τ Cert.Reference.sig) → Buf (Elt Bits) ℓ) (c : Dev Cert.Kernel.nD)
    (h : m' ((c.tc : Thread Cert.Reference.nD Cert.Reference.τ).loc Cert.Reference.main_arg1)
      = m ((c.tc : Thread Cert.Kernel.nD Cert.Kernel.τ).loc Cert.Kernel.main_arg1)) :
    (Cert.Reference.Gen.V m' c Cert.Reference.main_v3 : FVec Bits ⟨1, ![1]⟩ .f32)
      = Cert.Kernel.Gen.W3 m ρ c Cert.Kernel.main_v3 := by
  simp only [Cert.Reference.Gen.V, Cert.Kernel.Gen.W3, Cert.Kernel.Gen.W2, Cert.Kernel.Gen.W1, List.flatten]
  after_reads_simp
  simp only [StableHlo.TRef.ofBuf_toBuf]
  generalize hx : StableHlo.TRef.ofBuf (StableHlo.TRef.of Cert.Reference.main_arg1 _ _ _) _ = x
  generalize hy : StableHlo.TRef.ofBuf (StableHlo.TRef.of Cert.Kernel.main_arg1 _ _ _) _ = y
  have e : x = y := hx.symm.trans (Eq.trans h hy)
  subst e
  rfl

end Cert.Inv

end
-- ==== Proof.lean ====
/-
  The proof of `Cert.Claim`.  Each claim is read off the runs: `AtRun` and `KernelRun` say what every buffer holds at the
  end, `AtRegions` and `KernelRegions` what the grids leave in their arrays, `RefAtValue` and `ReferenceValue` what the
  references leave, `RefInv` that the two programs compute the same reciprocal scale.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Reference.Value
public import proofs.«01_k».proof.Proof.Gen.At
public import proofs.«01_k».proof.Proof.Gen.At.Skeleton
public import proofs.«01_k».proof.Proof.Gen.At.Launch
public import proofs.«01_k».proof.Proof.Gen.At.Points
public import proofs.«01_k».proof.Proof.Gen.At.Frame
public import proofs.«01_k».proof.Proof.Gen.AtIdeal
public import proofs.«01_k».proof.Proof.Gen.AtIdeal.Skeleton
public import proofs.«01_k».proof.Proof.Gen.AtIdeal.Launch
public import proofs.«01_k».proof.Proof.Gen.AtIdeal.Points
public import proofs.«01_k».proof.Proof.Gen.AtIdeal.Frame
public import proofs.«01_k».proof.Proof.Gen.RefAtIdeal
public import proofs.«01_k».proof.Proof.Gen.RefAtIdeal.Skeleton
public import proofs.«01_k».proof.Proof.Gen.RefAtIdeal.Launch
public import proofs.«01_k».proof.Proof.Gen.RefAtIdeal.Points
public import proofs.«01_k».proof.Proof.Gen.RefAtIdeal.Frame
public import proofs.«01_k».proof.Proof.Gen.RefAtIdeal.Value
public import proofs.«01_k».proof.Proof.Gen.On_codes_and_scale
public import proofs.«01_k».proof.Proof.AtValue
public import proofs.«01_k».proof.Proof.KernelValue
public import proofs.«01_k».proof.Proof.RefAtValue
public import proofs.«01_k».proof.Proof.ReferenceValue
public import proofs.«01_k».proof.Proof.RefInv
public import Idealize.ShloMosaic.Adequacy
public import Idealize.ShloMosaic.Init

@[expose] public section

noncomputable section

namespace Cert.Proof

open Idealize.ShloMosaic Idealize.ShloMosaic.TcCoe Idealize.SL.Sem

/-- The codes and the scale of the kernel are those of the reference, bit for bit. -/
theorem bitexact : Cert.bitexact_Kernel_Reference_on_codes_and_scale := by
  intro m g m' g' _ hagree
  have hnot : ∀ {a : BitVec 1}, a = 0#1 → a = 1#1 → False := by
    intro a h0 h1
    exact absurd (h0.symm.trans h1) (by decide)
  refine ⟨fun c => Cert.Kernel.Gen.W7 m g c (Proc.devRef .tc Cert.Kernel.main_v7),
    fun c => Cert.Kernel.Value.codes m g c,
    fun c => m ((c.tc : Thread Cert.Kernel.nD Cert.Kernel.τ).loc Cert.Kernel.main_arg1), ?_, ?_⟩
  · refine (θ_run Cert.Kernel.defs _ _).mono (fun r h c => ?_) (Cert.Kernel.Value.run m g)
    exact ⟨fun i hi => (hnot rfl hi).elim, fun i _ => congrFun (h c).1 i,
      fun i _ => congrFun (h c).2.2.1 i, (h c).2⟩
  · refine (θ_run Cert.Reference.defs _ _).mono (fun r h c => ?_) (Cert.Reference.Value.run_blocks m' g')
    have hx := (hagree c).1
    have hs := (hagree c).2.1
    refine ⟨fun i hi => (hnot rfl hi).elim, fun i _ => ?_, fun i _ => congrFun ((h c).2.2.2.1.trans hs) i, (h c).2.2⟩
    refine congrFun ((h c).2.1.trans ((Cert.Reference.Final.codes_final m' c).trans ?_)) i
    rw [Cert.Reference.Gen.V_main_arg0 m' c]
    exact congrArg₂ Spec.codes hx (Cert.Inv.inv_eq m g m' c hs)

/-- Over the extended reals, the kernel's results, codes and scale are the reference's, for every reciprocal scale. -/
theorem algebraic : Cert.algebraic_AtIdeal_RefAtIdeal := by
  intro m g m' g' _ hagree
  refine ⟨fun c => Cert.AtIdeal.Value.results m c, fun c => Cert.AtIdeal.Value.codes m c,
    fun c => m ((c.tc : Thread Cert.AtIdeal.nD Cert.AtIdeal.τ).loc Cert.AtIdeal.main_arg2), ?_, ?_⟩
  · refine (θ_run Cert.AtIdeal.defs _ _).mono (fun r h c => ?_) (Cert.AtIdeal.Value.run m g)
    exact ⟨(h c).1, (h c).2.1, (h c).2.2.2.2.1, (h c).2.2⟩
  · refine (θ_run Cert.RefAtIdeal.defs _ _).mono (fun r h c => ?_) (Cert.RefAtIdeal.Value.run_blocks m' g')
    obtain ⟨h0, h1, h2, h3, h4⟩ := hagree c
    refine ⟨(h c).1.trans ((Cert.RefAtIdeal.Final.product_final m' c).trans ?_),
      (h c).2.1.trans ((Cert.RefAtIdeal.Final.codes_final m' c).trans ?_), (h c).2.2.2.2.1.trans h2, (h c).2.2⟩
    · rw [h0, h1, h2, h3, h4]
    · rw [h0, h1]

theorem claim : Cert.Claim :=
  ⟨Cert.Kernel.Gen.facts, Cert.Reference.Gen.facts, Cert.At.Gen.facts, Cert.AtIdeal.Gen.facts, Cert.RefAtIdeal.Gen.facts,
    Cert.On_codes_and_scale.Gen.facts,
    fun m ρ _ => Cert.Kernel.Gen.frame m ρ, fun m ρ _ => Cert.Reference.Gen.frame m ρ, fun m ρ _ => Cert.At.Gen.frame m ρ,
    fun m ρ _ => Cert.AtIdeal.Gen.frame m ρ, fun m ρ _ => Cert.RefAtIdeal.Gen.frame m ρ,
    bitexact, trivial, algebraic⟩

end Cert.Proof

end
